-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x50 : Shape := ⟨2, ![4096, 50]⟩
abbrev S800x1x256 : Shape := ⟨3, ![800, 1, 256]⟩
abbrev S800x256x1000 : Shape := ⟨3, ![800, 256, 1000]⟩
abbrev S1x1x256 : Shape := ⟨3, ![1, 1, 256]⟩
abbrev S1x256x1000 : Shape := ⟨3, ![1, 256, 1000]⟩
abbrev S256 : Shape := ⟨1, ![256]⟩
abbrev S256x1000 : Shape := ⟨2, ![256, 1000]⟩
abbrev S256x1 : Shape := ⟨2, ![256, 1]⟩
abbrev S4096x50x1000 : Shape := ⟨3, ![4096, 50, 1000]⟩

abbrev nBuf : Space → Nat
  | .hbm => 4
  | .vmem => 4
  | .smem => 0
  | _ => 0

abbrev bufTy : (tb : Table) → Fin (tcTables nBuf tb) → BufTy
  | .hbm, ⟨0, _⟩ => ⟨S4096x50, .i32⟩
  | .hbm, ⟨1, _⟩ => ⟨S800x1x256, .i32⟩
  | .hbm, ⟨2, _⟩ => ⟨S800x256x1000, .f32⟩
  | .hbm, ⟨3, _⟩ => ⟨S4096x50x1000, .f32⟩
  | .local _ .vmem, ⟨0, _⟩ => ⟨S1x1x256, .i32⟩
  | .local _ .vmem, ⟨1, _⟩ => ⟨S1x1x256, .i32⟩
  | .local _ .vmem, ⟨2, _⟩ => ⟨S1x256x1000, .f32⟩
  | .local _ .vmem, ⟨3, _⟩ => ⟨S1x256x1000, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![800], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x50 : Shape := ⟨2, ![4096, 50]⟩
abbrev S_ : Shape := ⟨0, ![]⟩
abbrev S4096x50x1000 : Shape := ⟨3, ![4096, 50, 1000]⟩
abbrev S4096 : Shape := ⟨1, ![4096]⟩
abbrev S4096x1 : Shape := ⟨2, ![4096, 1]⟩
abbrev S50 : Shape := ⟨1, ![50]⟩
abbrev S1x50 : Shape := ⟨2, ![1, 50]⟩
abbrev S4096x50x1 : Shape := ⟨3, ![4096, 50, 1]⟩
abbrev S4096x50x3 : Shape := ⟨3, ![4096, 50, 3]⟩

abbrev nBuf : Space → Nat
  | .hbm => 59
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S4096x50, .i32⟩
  | .hbm, ⟨8, _⟩ => ⟨S4096x50, .i32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i1⟩
  | .hbm, ⟨15, _⟩ => ⟨S_, .i32⟩
  | .hbm, ⟨16, _⟩ => ⟨S_, .i1⟩
  | .hbm, ⟨17, _⟩ => ⟨S4096x50, .i1⟩
  | .hbm, ⟨18, _⟩ => ⟨S4096x50, .i1⟩
  | .hbm, ⟨19, _⟩ => ⟨S4096x50, .i1⟩
  | .hbm, ⟨20, _⟩ => ⟨S4096x50, .i32⟩
  | .hbm, ⟨21, _⟩ => ⟨S4096x50, .i32⟩
  | .hbm, ⟨22, _⟩ => ⟨S4096x50, .i32⟩
  | .hbm, ⟨23, _⟩ => ⟨S_, .f32⟩
  | .hbm, ⟨24, _⟩ => ⟨S4096x50x1000, .f32⟩
  | .hbm, ⟨25, _⟩ => ⟨S4096, .i32⟩
  | .hbm, ⟨26, _⟩ => ⟨S4096x1, .i32⟩
  | .hbm, ⟨27, _⟩ => ⟨S50, .i32⟩
  | .hbm, ⟨28, _⟩ => ⟨S1x50, .i32⟩
  | .hbm, ⟨29, _⟩ => ⟨S_, .i32⟩
  | .hbm, ⟨30, _⟩ => ⟨S4096x1, .i32⟩
  | .hbm, ⟨31, _⟩ => ⟨S4096x1, .i1⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S4096x1, .i32⟩
  | .hbm, ⟨36, _⟩ => ⟨S_, .i32⟩
  | .hbm, ⟨37, _⟩ => ⟨S1x50, .i32⟩
  | .hbm, ⟨38, _⟩ => ⟨S1x50, .i1⟩
  | .hbm, ⟨39, _⟩ => ⟨S_, .i32⟩
  | .hbm, ⟨40, _⟩ => ⟨S1x50, .i32⟩
  | .hbm, ⟨41, _⟩ => ⟨S1x50, .i32⟩
  | .hbm, ⟨42, _⟩ => ⟨S1x50, .i32⟩
  | .hbm, ⟨43, _⟩ => ⟨S_, .i32⟩
  | .hbm, ⟨44, _⟩ => ⟨S4096x50, .i32⟩
  | .hbm, ⟨45, _⟩ => ⟨S4096x50, .i1⟩
  | .hbm, ⟨46, _⟩ => ⟨S_, .i32⟩
  | .hbm, ⟨47, _⟩ => ⟨S4096x50, .i32⟩
  | .hbm, ⟨48, _⟩ => ⟨S4096x50, .i32⟩
  | .hbm, ⟨49, _⟩ => ⟨S4096x50, .i32⟩
  | .hbm, ⟨50, _⟩ => ⟨S4096x50, .i32⟩
  | .hbm, ⟨51, _⟩ => ⟨S4096x50, .i32⟩
  | .hbm, ⟨52, _⟩ => ⟨S4096x50x1, .i32⟩
  | .hbm, ⟨53, _⟩ => ⟨S4096x50x1, .i32⟩
  | .hbm, ⟨54, _⟩ => ⟨S4096x50x1, .i32⟩
  | .hbm, ⟨55, _⟩ => ⟨S4096x50x3, .i32⟩
  | .hbm, ⟨56, _⟩ => ⟨S_, .f32⟩
  | .hbm, ⟨57, _⟩ => ⟨S4096x50, .f32⟩
  | .hbm, ⟨58, _⟩ => ⟨S4096x50x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c_1 : Ref sig .tc := ⟨.hbm, 9, rfl⟩
abbrev main_call0_v5 : Ref sig .tc := ⟨.hbm, 10, rfl⟩
abbrev main_call0_v6 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_c_3 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩

abbrev nD : Nat := 1
abbrev τ : Topo := Topo.v7x

variable {F : FTy → Type} [FloatOps F]
-- ==== Proof.Words.lean ====
/-
  The remainder of a 32-bit word by 1000 as `x % 1000` means it in Python: the representative between 0
  and 999. Both programs spell it as the machine's truncating remainder followed by a correction of the
  sign; here each spelling is shown to be the same function of the word.
-/
module

public import Idealize.ShloMosaic.Lib.Pointwise
public import Idealize.ShloMosaic.Lib.WordCmp

@[expose] public section

namespace Cert.Words

open Idealize.ShloMosaic

/-- The residue of the signed word `x` modulo 1000, as a natural number. -/
def residue (x : BitVec 32) : Nat := (x.toInt % 1000).toNat

/-- A residue modulo 1000 lies below 1000. -/
theorem residue_lt (x : BitVec 32) : residue x < 1000 := by
  unfold residue; omega

/-- The guard against a zero divisor, on the divisor 1000, leaves 1000. -/
theorem guard_thousand :
    Scalar.select (IntOp.cmpi .eq (1000#32) 0#32) (1#32) (1000#32) = 1000#32 := by decide

/-- The truncating remainder by 1000, read as an integer, is the truncating remainder of the integers. -/
theorem toInt_remsi (u : ArithUnit) (x : BitVec 32) :
    (IntOp.remsi u x 1000#32).toInt = x.toInt.tmod 1000 := by
  have corner : ¬ IntOp.SDivCorner x 1000#32 := by
    intro h; rcases h with h | h <;> revert h <;> simp
  rw [IntOp.remsi, if_neg corner, BitVec.toInt_srem]
  rfl

/-- Adding 1000 to the truncating remainder when that is negative gives the word of the residue. -/
theorem corrected (u : ArithUnit) (x : BitVec 32) :
    (if (IntOp.remsi u x 1000#32).toInt < 0 then IntOp.remsi u x 1000#32 + 1000#32 else IntOp.remsi u x 1000#32)
      = BitVec.ofNat 32 (residue x) := by
  have hr := toInt_remsi u x
  have hlt := residue_lt x
  generalize IntOp.remsi u x 1000#32 = r at hr ⊢
  apply BitVec.eq_of_toInt_eq
  rw [WordCmp.toInt_ofNat_of_lt (by omega)]
  have hres : ((residue x : Nat) : Int) = x.toInt % 1000 := by unfold residue; omega
  have htm : x.toInt.tmod 1000 = x.toInt % 1000 - if 0 ≤ x.toInt ∨ (1000 : Int) ∣ x.toInt then 0 else 1000 := by
    rw [Int.tmod_eq_emod]
    split <;> rfl
  have hk : (1000#32 : BitVec 32).toInt = 1000 := by decide
  split
  · rename_i hneg
    rw [BitVec.toInt_add, hk, hr, hres, htm]
    rw [hr, htm] at hneg
    split at hneg
    · omega
    · rename_i h
      rw [if_neg h, Int.bmod_def]
      omega
  · rename_i hpos
    rw [hr, htm] at hpos
    rw [hr, hres, htm]
    split at hpos
    · rename_i h; rw [if_pos h]; omega
    · omega

/-- The test both programs make: the remainder is corrected exactly when it is negative. The signs of the
    remainder and of 1000 are compared, and a zero remainder is exempted. -/
theorem select_negative (r a b : BitVec 32) (s : BitVec 1)
    (hs : s = IntOp.cmpi .slt r 0#32) :
    Scalar.select (IntOp.andi s (IntOp.cmpi .ne r 0#32)) a b = if r.toInt < 0 then a else b := by
  subst hs
  rw [WordCmp.cmpi_slt_eq, WordCmp.cmpi_ne_eq, WordCmp.andi_ofBool, WordCmp.select_ofBool]
  have h0 : (0#32 : BitVec 32).toInt = 0 := by decide
  rw [h0]
  by_cases h : r.toInt < 0
  · have hne : r ≠ 0#32 := by rintro rfl; rw [h0] at h; omega
    simp [h, hne]
  · simp [h]

/-- The kernel's spelling: the signs differ when their exclusive or is set. -/
theorem kernel_spelling (u : ArithUnit) (x : BitVec 32) :
    Scalar.select
        (IntOp.andi (IntOp.xori (IntOp.cmpi .slt (IntOp.remsi u x 1000#32) 0#32) (IntOp.cmpi .slt (1000#32) 0#32))
          (IntOp.cmpi .ne (IntOp.remsi u x 1000#32) 0#32))
        (IntOp.addi (IntOp.remsi u x 1000#32) 1000#32) (IntOp.remsi u x 1000#32)
      = BitVec.ofNat 32 (residue x) := by
  rw [select_negative]
  · exact corrected u x
  · generalize IntOp.cmpi .slt (IntOp.remsi u x 1000#32) 0#32 = s
    revert s; decide

/-- The reference's spelling: the signs differ when they are unequal as bits. -/
theorem reference_spelling (u : ArithUnit) (x : BitVec 32) :
    Scalar.select
        (IntOp.andi (IntOp.cmpi .ne (IntOp.cmpi .slt (IntOp.remsi u x 1000#32) 0#32) (IntOp.cmpi .slt (1000#32) 0#32))
          (IntOp.cmpi .ne (IntOp.remsi u x 1000#32) 0#32))
        (IntOp.addi (IntOp.remsi u x 1000#32) 1000#32) (IntOp.remsi u x 1000#32)
      = BitVec.ofNat 32 (residue x) := by
  rw [select_negative]
  · exact corrected u x
  · generalize IntOp.cmpi .slt (IntOp.remsi u x 1000#32) 0#32 = s
    revert s; decide

/-- An index word below the sign bit is not negative, so wrapping a negative index leaves it alone. -/
theorem wrap_small (n : Nat) (hn : n < 2 ^ 31) (a : BitVec 32) :
    Scalar.select (IntOp.cmpi .slt (BitVec.ofNat 32 n) 0#32) a (BitVec.ofNat 32 n) = BitVec.ofNat 32 n := by
  rw [WordCmp.cmpi_slt_zero, WordCmp.toNat_ofNat_of_lt (by omega), WordCmp.select_ofBool]
  simp
  omega

end Cert.Words
-- ==== Proof.Kernel.lean ====
/-
  The kernel's result: grid point `g` writes the one-hot rows of words `256 g … 256 g + 255` of the
  flattened input, so the whole output is the one-hot table of the input's residues modulo 1000.
-/
module

public import proofs.«01_k».proof.Proof.Gen.KernelIdeal.Frame
public import proofs.«01_k».proof.Proof.Words
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

/-- A comparison bit widened to a word and read as a float is one or zero. -/
theorem float_of_bit (p : Prop) [Decidable p] :
    (FloatOps.sitofp (F := Ideal) .f32 ((BitVec.ofBool (decide p)).setWidth 32)) = if p then (1 : EReal) else 0 := by
  by_cases h : p
  · simp only [h, decide_true]
    show (((1 : BitVec 32).toInt : ℝ) : EReal) = _
    simp
  · simp only [h, decide_false]
    show (((0 : BitVec 32).toInt : ℝ) : EReal) = _
    simp

/-- One entry of the block a grid point computes: one where the row's word has residue `d`, zero elsewhere. -/
theorem payload_entry (v : Vec Ideal S1x1x256 .i32) (r : Fin 256) (d : Fin 1000) :
    k0_pay1 (F := Ideal) v (ix3 0 r d) = if Words.residue (v (ix3 0 0 r)) = d.val then (1 : EReal) else 0 := by
  have below := Words.residue_lt (v (ix3 0 0 r))
  pointwise [k0_pay1]
  rw [show Scalar.select (Scalar.cmpi .eq (1000#32) 0#32) (1#32) (1000#32) = 1000#32 from Words.guard_thousand]
  rw [WordCmp.scalar_cmpi_eq, Words.kernel_spelling, WordCmp.cmpi_eq_ofNat (by omega) (by omega), float_of_bit]
  simp only [eq_comm]

variable (m : (ℓ : Loc nD τ sig) → Buf (Elt Ideal) ℓ) (ρ : Dev nD → PrngReg)

/-- The table the grid leaves in the output array, over the array of blocks `a` it reads. -/
def blocks (a : S800x1x256.Idx → BitVec 32) : S800x256x1000.Idx → EReal :=
  fun i => if Words.residue (a (ix3 (i 0) 0 (i 1))) = (i 2).val then 1 else 0

/-- Grid point `t` reads block `t` of the input array. -/
theorem index_in : ∀ t : Fin cfg0.N, win0_0.index t = ![(grid0.coords t 0).val, 0, 0] :=
  (by decide +kernel : ∀ t : Fin grid0.N, _)

/-- Grid point `t` writes block `t` of the output array. -/
theorem index_out : ∀ t : Fin cfg0.N, win0_1.index t = ![(grid0.coords t 0).val, 0, 0] :=
  (by decide +kernel : ∀ t : Fin grid0.N, _)

/-- The input block at point `t` is row `t` of the input array. -/
theorem block_entry (c : Dev nD) (t : Fin cfg0.N) (r : Fin 256) :
    iblk m c 0 t (ix3 0 0 r) = V m c main_v0 (ix3 (grid0.coords t 0) 0 r) := by
  blk_ext [iblk, index_in t]

/-- After the whole grid the output array holds the one-hot rows of the input array. -/
theorem final_array (c : Dev nD) :
    (dats (F := Ideal) m 0 c).arrAt 1 cfg0.N = blocks (V m c main_v0) := by
  refine (dats m 0 c).arrAt_eq_of_covers 1 _ (by decide +kernel) fun t hf y => ?_
  blk_simp
  rw [after0_1]; frame_out
  idx_vars y
  obtain rfl : y0 = 0 := Subsingleton.elim _ _
  have place : ((View.whole main_v1).slice (win0_1.rect t)).emb (ix3 0 y1 y2) = ix3 (grid0.coords t 0) y1 y2 := by
    blk_ext [index_out t]
  refine (payload_entry _ y1 y2).trans ?_
  rw [block_entry, place]
  rfl

/-- The array the grid reads is the input, reshaped to 800 rows of 256 words. -/
theorem input_array (c : Dev nD) :
    V m c main_v0 = shapeCast S800x1x256 (m ((c.tc : Thread nD τ).loc main_arg0)) shapeCasts_S4096x50_S800x1x256 := by
  unfold V V0
  simp only [List.flatten_cons, List.flatten_nil, List.append_nil, StableHlo.after_cons, StableHlo.after_nil]
  exact StableHlo.reshape_result main_arg0 main_v0 rfl shapeCasts_S4096x50_S800x1x256 _ _ (fun b => m (c, b))

/-- The result is the grid's output array, reshaped to the input's leading axes. -/
theorem output_array (c : Dev nD) :
    Pipeline.afterTail₀ cfgs (dats m) 0 (V0 m) [hostOps1] c main_v2
      = shapeCast S4096x50x1000 (blocks (V m c main_v0)) shapeCasts_S800x256x1000_S4096x50x1000 := by
  rw [← final_array m c,
    ← Pipeline.withArrays_arr spec0 (by decide) c (V0 m c) (fun w => (dats m 0 c).arrAt w cfg0.N) 1]
  unfold Pipeline.afterTail₀
  simp only [List.flatten_cons, List.flatten_nil, List.append_nil, StableHlo.after_cons, StableHlo.after_nil]
  exact StableHlo.reshape_result main_v1 main_v2 rfl shapeCasts_S800x256x1000_S4096x50x1000 _ _ _

/-- Row `r` of block `g` of the grid's input is the word of `x` at the same flat position. -/
theorem input_entry (c : Dev nD) (g : Fin 800) (r : Fin 256) (b : Fin 4096) (t : Fin 50)
    (h : g.val * 256 + r.val = b.val * 50 + t.val) :
    V m c main_v0 (ix3 g 0 r) = m ((c.tc : Thread nD τ).loc main_arg0) (ix2 b t) := by
  rw [input_array]
  refine shapeCast_apply (s := S4096x50) (t := S800x1x256) _ _ _ _ ?_
  rw [Shape.rowMajor_val_two, Shape.rowMajor_val_three]
  show b.val * 50 + t.val = (g.val * 1 + 0) * 256 + r.val
  omega

/-- The kernel's result: the one-hot table of the residues of the words of `x`. -/
theorem result_entry (c : Dev nD) (b : Fin 4096) (t : Fin 50) (d : Fin 1000) :
    Pipeline.afterTail₀ cfgs (dats m) 0 (V0 m) [hostOps1] c main_v2 (ix3 b t d)
      = if Words.residue (m ((c.tc : Thread nD τ).loc main_arg0) (ix2 b t)) = d.val then (1 : EReal) else 0 := by
  rw [output_array]
  pointwise [blocks]
  rw [input_entry m c _ _ b t (by dsimp only; omega)]

/-- The kernel's program ends with the named table in its result buffer and its argument unchanged. -/
theorem run :
    θ_run defs (onTc (τ := τ) (main (F := Ideal))) ⟨m, fun _ => 0, ρ⟩ (fun r => ∀ c : Dev nD,
      r.2.mem ((c.tc : Thread nD τ).loc main_v2)
        = Pipeline.afterTail₀ cfgs (dats (F := Ideal) m) 0 (V0 m) [hostOps1] c main_v2
      ∧ r.2.mem ((c.tc : Thread nD τ).loc main_arg0) = m ((c.tc : Thread nD τ).loc main_arg0)) :=
  (θ_run defs _ _).mono (fun _ h c =>
    ⟨(h c).2 main_v2 (Pipeline.mem_restRefs_of main_v2 (by decide) (by decide)),
      ((h c).2 main_arg0 (Pipeline.mem_restRefs_of main_arg0 (by decide) (by decide))).trans (W_main_arg0 m (dats m) c)⟩)
    (run_main m ρ)

end Cert.KernelIdeal.Hand
-- ==== Proof.Reference.lean ====
/-
  The reference's result: a scatter of ones into zeros, each index row `(b, t, x[b, t] % 1000)`, is the
  one-hot table of the input's residues modulo 1000.
-/
module

public import proofs.«01_k».proof.Proof.Gen.ReferenceIdeal.Run
public import proofs.«01_k».proof.Proof.Words
public import Idealize.ShloMosaic.Lib.Claim
public import Idealize.ShloMosaic.Lib.Pointwise
public import Idealize.ShloMosaic.Lib.Routing.OpsSet
public import Idealize.ShloMosaic.Lib.Routing.OpsPair
public import Idealize.ShloMosaic.Lib.IdealHost

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- The scatter's dimension numbers: every operand axis is addressed by one of three index words. -/
abbrev dn := scatter_S4096x50x1000_S4096x50x3_S4096x50_n_012_012_2

/-- No operand axis is a window axis, so an update adds nothing to its start. -/
theorem window_zero (b : Fin 4096) (t : Fin 50) (q : Fin 3) : dn.window (ix2 b t) q = 0 := by
  unfold ScatterDims.window
  apply dif_neg
  revert q
  decide

/-- The start of update `(b, t)` along axis `q` is word `q` of its index row. -/
theorem start_word (idx : IVec S4096x50x3 32) (b : Fin 4096) (t : Fin 50) (q : Fin 3) :
    dn.start (ix2 b t) idx q = (idx (ix3 b t q)).toInt := by
  have member : ∀ a : Fin 3, a ∈ dn.scatterDimsToOperandDims := by decide
  unfold ScatterDims.start
  rw [dif_pos (member q)]
  congr 2
  funext a
  fin_cases a
  · rfl
  · rfl
  · fin_cases q <;> rfl

/-- Update `(b, t)` lands at `(b', t', d)` exactly when its three index words name that element. -/
theorem lands (idx : IVec S4096x50x3 32) (b b' : Fin 4096) (t t' : Fin 50) (d : Fin 1000) :
    dn.resultIdx? (ix2 b t) idx = some (ix3 b' t' d) ↔
      (idx (ix3 b t 0)).toInt = b'.val ∧ (idx (ix3 b t 1)).toInt = t'.val ∧ (idx (ix3 b t 2)).toInt = d.val := by
  rw [Routing.resultIdx?_eq_some]
  constructor
  · intro h
    have h0 := h 0
    have h1 := h 1
    have h2 := h 2
    rw [start_word, window_zero] at h0 h1 h2
    exact ⟨by simpa using h0, by simpa using h1, by simpa using h2⟩
  · rintro ⟨h0, h1, h2⟩ a
    rw [start_word, window_zero]
    fin_cases a
    · simpa using h0
    · simpa using h1
    · simpa using h2

/-- Scattering a value into a table with index rows `(b, t, g b t)` puts it at `(b, t, g b t)` and leaves
    every other entry at its old value. -/
theorem scatter_rows {α : Type} (idx : IVec S4096x50x3 32) (g : Fin 4096 → Fin 50 → Nat)
    (h0 : ∀ b t, idx (ix3 b t 0) = BitVec.ofNat 32 b.val) (h1 : ∀ b t, idx (ix3 b t 1) = BitVec.ofNat 32 t.val)
    (h2 : ∀ b t, idx (ix3 b t 2) = BitVec.ofNat 32 (g b t)) (hg : ∀ b t, g b t < 1000)
    (old : S4096x50x1000.Idx → α) (new : S4096x50.Idx → α) (v : α) (hv : ∀ k, new k = v)
    (b : Fin 4096) (t : Fin 50) (d : Fin 1000) :
    Host.scatter dn (fun _ y => y) old idx new (ix3 b t d) = if g b t = d.val then v else old (ix3 b t d) := by
  have key : ∀ (b' : Fin 4096) (t' : Fin 50),
      dn.resultIdx? (ix2 b' t') idx = some (ix3 b t d) ↔ b' = b ∧ t' = t ∧ g b' t' = d.val := by
    intro b' t'
    have := hg b' t'
    rw [lands, h0, h1, h2, WordCmp.toInt_ofNat_of_lt (by omega), WordCmp.toInt_ofNat_of_lt (by omega),
      WordCmp.toInt_ofNat_of_lt (by omega), Fin.ext_iff, Fin.ext_iff]
    omega
  by_cases hd : g b t = d.val
  · rw [if_pos hd]
    exact Routing.scatter_set_hit dn old idx new _ v (fun k _ => hv k) (ix2 b t) ((key b t).2 ⟨rfl, rfl, hd⟩)
  · rw [if_neg hd]
    refine Routing.scatter_set_miss dn old idx new _ fun k hk => ?_
    idx_vars k
    obtain ⟨rfl, rfl, h⟩ := (key _ _).1 hk
    exact hd h

variable (m : (ℓ : Loc nD τ sig) → Buf (Elt Ideal) ℓ) (ρ : Dev nD → PrngReg)

/-- The reference's result, entry by entry: one where the residue of `x[b, t]` is `d`, zero elsewhere. -/
theorem result_entry (c : Dev nD) (b : Fin 4096) (t : Fin 50) (d : Fin 1000) :
    Value.res_out0 (F := Ideal) m c (ix3 b t d)
      = if Words.residue (m ((c.tc : Thread nD τ).loc main_arg0) (ix2 b t)) = d.val then (1 : EReal) else 0 := by
  unfold Value.res_out0 Value.res_main_v28
  refine (scatter_rows _ (fun b t => Words.residue (m ((c.tc : Thread nD τ).loc main_arg0) (ix2 b t))) ?_ ?_ ?_
    (fun b t => Words.residue_lt _) _ _ (1 : EReal) ?_ b t d).trans ?_
  · intro b t
    pointwise
    exact Words.wrap_small _ (by omega) _
  · intro b t
    pointwise
    exact Words.wrap_small _ (by omega) _
  · intro b t
    have below := Words.residue_lt (m ((c.tc : Thread nD τ).loc main_arg0) (ix2 b t))
    pointwise [id_eq]
    rw [Words.guard_thousand, Words.reference_spelling]
    exact Words.wrap_small _ (by omega) _
  · intro k
    idx_vars k
    pointwise
  · pointwise

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel
public import proofs.«01_k».proof.Proof.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its argument alone and ends with every semaphore counter at zero. -/
theorem reference_runs : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

/-- The two results agree entry by entry: both are the one-hot table of the residues of `x`. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (agree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_out0 (F := Ideal) m' c
      = Pipeline.afterTail₀ Cert.KernelIdeal.cfgs (Cert.KernelIdeal.Gen.dats (F := Ideal) m) 0 (Cert.KernelIdeal.Gen.V0 m)
          [Cert.KernelIdeal.Gen.hostOps1] c Cert.KernelIdeal.main_v2 := by
  refine funext fun (i : Cert.ReferenceIdeal.S4096x50x1000.Idx) => ?_
  idx_vars i
  refine (Cert.ReferenceIdeal.Hand.result_entry m' c i0 i1 i2).trans (Eq.trans ?_ (Cert.KernelIdeal.Hand.result_entry m c i0 i1 i2).symm)
  rw [agree]

/-- From memories that agree on `x` the kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ agree
  refine ⟨_, Cert.KernelIdeal.Hand.run m g, ?_⟩
  exact (θ_run _ _ _).mono (fun _ h c => ⟨(h c).1.trans (results_agree m m' c (agree c)), (h c).2⟩)
    (Cert.ReferenceIdeal.Value.run (F := Ideal) m' g')

/-- Everything the certificate claims: three runs, the kernel kept as written, and equal results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_runs, trivial, equal_results⟩

end Cert.Proof

end
